-- ==== Defs.lean ====
def Pre_Kernel [hPre_queries_in_domain : Cert.Pre_queries_in_domain.Facts] (m : (ℓ : Loc Cert.Kernel.nD Cert.Kernel.τ Cert.Kernel.sig) → Buf (Elt Bits) ℓ) : Prop :=
  ∀ c : Dev Cert.Kernel.nD,
    (Cert.Pre_queries_in_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_queries_in_domain : Cert.Pre_queries_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_queries_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_queries_in_domain [hPre_queries_in_domain : Cert.Pre_queries_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_queries_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_queries_in_domain : Cert.Pre_queries_in_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_queries_in_domain : Cert.Pre_queries_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_queries_in_domain [hReferenceIdeal : Cert.ReferenceIdeal.Facts] [hPre_queries_in_domain : Cert.Pre_queries_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_queries_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_queries_in_domain : Cert.Pre_queries_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_queries_in_domain : Cert.Pre_queries_in_domain.Facts),
    quiescent_Kernel (hKernel := hKernel) (hPre_queries_in_domain := hPre_queries_in_domain)
    ∧ quiescent_KernelIdeal (hKernelIdeal := hKernelIdeal) (hPre_queries_in_domain := hPre_queries_in_domain)
    ∧ quiescent_ReferenceIdeal (hReferenceIdeal := hReferenceIdeal)
    ∧ quiescent_ReferenceIdeal_pre_queries_in_domain (hReferenceIdeal := hReferenceIdeal) (hPre_queries_in_domain := hPre_queries_in_domain)
    ∧ preserves_Kernel_KernelIdeal
    ∧ algebraic_KernelIdeal_ReferenceIdeal (hKernelIdeal := hKernelIdeal) (hReferenceIdeal := hReferenceIdeal) (hPre_queries_in_domain := hPre_queries_in_domain)
-- ==== Pre_queries_in_domain.lean ====
abbrev S1048576x2 : Shape := ⟨2, ![1048576, 2]⟩
abbrev S1024x1024 : Shape := ⟨2, ![1024, 1024]⟩
abbrev S_ : Shape := ⟨0, ![]⟩

class Facts : Prop where
  bcast_S_S1048576x2 : S_.BroadcastsInDim S1048576x2 (![] : Fin 0 → Fin S1048576x2.rank)
  reducesTo_S1048576x2_S_d0_1 : S1048576x2.ReducesTo [0, 1] S_
  h_S_ : 0 < S_.numel

variable [Facts]

def fn {F : FTy → Type} [FloatOps F] (main_arg0 : IVec S1048576x2 32) (main_arg1 : FVec F S1024x1024 .f32) : IVec S_ 1 :=
  let main_c : IVec S_ 32 := constantI S_ 32 0#32
  let main_v0 : IVec S1048576x2 32 := broadcastInDim S1048576x2 ![] bcast_S_S1048576x2 main_c
  let main_v1 : IVec S1048576x2 1 := cmpi .sge main_arg0 main_v0
  let main_c_0 : IVec S_ 1 := constantI S_ 1 1#1
  let main_v2 : IVec S_ 1 := (fun x v => Host.reduce IntOp.andi x v reducesTo_S1048576x2_S_d0_1 h_S_) main_v1 main_c_0
  let main_c_1 : IVec S_ 32 := constantI S_ 32 1024#32
  let main_v3 : IVec S1048576x2 32 := broadcastInDim S1048576x2 ![] bcast_S_S1048576x2 main_c_1
  let main_v4 : IVec S1048576x2 1 := cmpi .slt main_arg0 main_v3
  let main_c_2 : IVec S_ 1 := constantI S_ 1 1#1
  let main_v5 : IVec S_ 1 := (fun x v => Host.reduce IntOp.andi x v reducesTo_S1048576x2_S_d0_1 h_S_) main_v4 main_c_2
  let main_v6 : IVec S_ 1 := andi main_v2 main_v5
  main_v6
-- ==== Kernel.lean ====
abbrev S1048576x2 : Shape := ⟨2, ![1048576, 2]⟩
abbrev S1024x1024 : Shape := ⟨2, ![1024, 1024]⟩
abbrev S1048576x1 : Shape := ⟨2, ![1048576, 1]⟩
abbrev S1048576 : Shape := ⟨1, ![1048576]⟩
abbrev S_ : Shape := ⟨0, ![]⟩
abbrev S8192 : Shape := ⟨1, ![8192]⟩

abbrev nBuf : Table → Nat
  | .hbm => 12
  | .local .scVector .vmem => 4
  | _ => 0

abbrev bufTy : (tb : Table) → Fin (nBuf tb) → BufTy
  | .hbm, ⟨0, _⟩ => ⟨S1048576x2, .i32⟩
  | .hbm, ⟨1, _⟩ => ⟨S1024x1024, .f32⟩
  | .hbm, ⟨2, _⟩ => ⟨S1048576x1, .i32⟩
  | .hbm, ⟨3, _⟩ => ⟨S1048576, .i32⟩
  | .hbm, ⟨4, _⟩ => ⟨S_, .i32⟩
  | .hbm, ⟨5, _⟩ => ⟨S1048576, .i32⟩
  | .hbm, ⟨6, _⟩ => ⟨S1048576, .i32⟩
  | .hbm, ⟨7, _⟩ => ⟨S1048576x1, .i32⟩
  | .hbm, ⟨8, _⟩ => ⟨S1048576, .i32⟩
  | .hbm, ⟨9, _⟩ => ⟨S1048576, .i32⟩
  | .hbm, ⟨10, _⟩ => ⟨S1048576, .f32⟩
  | .hbm, ⟨11, _⟩ => ⟨S1048576, .f32⟩
  | .local .scVector .vmem, ⟨0, _⟩ => ⟨S8192, .i32⟩
  | .local .scVector .vmem, ⟨1, _⟩ => ⟨S8192, .i32⟩
  | .local .scVector .vmem, ⟨2, _⟩ => ⟨S8192, .f32⟩
  | .local .scVector .vmem, ⟨3, _⟩ => ⟨S8192, .f32⟩
  | _, _ => ⟨S1048576x2, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v6_scv : Ref sig .scVector := ⟨.hbm, 9, rfl⟩
abbrev main_v7_scv : Ref sig .scVector := ⟨.hbm, 10, rfl⟩
abbrev main_v8_scv : Ref sig .scVector := ⟨.hbm, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let v3 : BitVec 32 := Scalar.addi v2 c0_i32
  ![v3.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1048576x2 : Shape := ⟨2, ![1048576, 2]⟩
abbrev S1024x1024 : Shape := ⟨2, ![1024, 1024]⟩
abbrev S1048576x1 : Shape := ⟨2, ![1048576, 1]⟩
abbrev S1048576 : Shape := ⟨1, ![1048576]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S1048576x2, .i32⟩
  | .hbm, ⟨1, _⟩ => ⟨S1024x1024, .f32⟩
  | .hbm, ⟨2, _⟩ => ⟨S1048576x1, .i32⟩
  | .hbm, ⟨3, _⟩ => ⟨S1048576, .i32⟩
  | .hbm, ⟨4, _⟩ => ⟨S1048576x1, .i32⟩
  | .hbm, ⟨5, _⟩ => ⟨S1048576, .i32⟩
  | .hbm, ⟨6, _⟩ => ⟨S_, .i32⟩
  | .hbm, ⟨7, _⟩ => ⟨S1048576, .i32⟩
  | .hbm, ⟨8, _⟩ => ⟨S1048576, .i1⟩
  | .hbm, ⟨9, _⟩ => ⟨S_, .i32⟩
  | .hbm, ⟨10, _⟩ => ⟨S1048576, .i32⟩
  | .hbm, ⟨11, _⟩ => ⟨S1048576, .i32⟩
  | .hbm, ⟨12, _⟩ => ⟨S1048576, .i32⟩
  | .hbm, ⟨13, _⟩ => ⟨S_, .i32⟩
  | .hbm, ⟨14, _⟩ => ⟨S1048576, .i32⟩
  | .hbm, ⟨15, _⟩ => ⟨S1048576, .i1⟩
  | .hbm, ⟨16, _⟩ => ⟨S_, .i32⟩
  | .hbm, ⟨17, _⟩ => ⟨S1048576, .i32⟩
  | .hbm, ⟨18, _⟩ => ⟨S1048576, .i32⟩
  | .hbm, ⟨19, _⟩ => ⟨S1048576, .i32⟩
  | .hbm, ⟨20, _⟩ => ⟨S1048576x1, .i32⟩
  | .hbm, ⟨21, _⟩ => ⟨S1048576x1, .i32⟩
  | .hbm, ⟨22, _⟩ => ⟨S1048576x2, .i32⟩
  | .hbm, ⟨23, _⟩ => ⟨S1048576, .f32⟩
  | .hbm, ⟨24, _⟩ => ⟨S_, .i32⟩
  | .hbm, ⟨25, _⟩ => ⟨S1048576x2, .i32⟩
  | .hbm, ⟨26, _⟩ => ⟨S1048576x2, .i1⟩
  | .hbm, ⟨27, _⟩ => ⟨S_, .i1⟩
  | .hbm, ⟨28, _⟩ => ⟨S1048576, .i1⟩
  | .hbm, ⟨29, _⟩ => ⟨S_, .f32⟩
  | .hbm, ⟨30, _⟩ => ⟨S1048576, .f32⟩
  | .hbm, ⟨31, _⟩ => ⟨S1048576, .f32⟩
  | _, _ => ⟨S1048576x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_3 : Ref sig .tc := ⟨.hbm, 24, rfl⟩
abbrev main_v18 : Ref sig .tc := ⟨.hbm, 25, rfl⟩
abbrev main_v19 : Ref sig .tc := ⟨.hbm, 26, rfl⟩
abbrev main_c_4 : Ref sig .tc := ⟨.hbm, 27, rfl⟩
abbrev main_v20 : Ref sig .tc := ⟨.hbm, 28, rfl⟩
abbrev main_cst : Ref sig .tc := ⟨.hbm, 29, rfl⟩
abbrev main_call0_v0 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Proof.Setup.lean ====
/-
  The launch seen by the proof: the program's configuration, the buffers, the pieces of the result, the read shares of
  the position list and of the table, and what the kernel computes from the two.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are four different unscoped ones, and no kernel scratch is shared between tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds and the local transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- The position list, the flat table and the result, in the device's HBM. -/
abbrev nLoc (d : Dev nD) : Loc nD τ sig := (SparseCore.T d).loc main_v6
abbrev tLoc (d : Dev nD) : Loc nD τ sig := (SparseCore.T d).loc main_v7
abbrev oLoc (d : Dev nD) : Loc nD τ sig := (SparseCore.T d).loc main_v8

/-! ## What the kernel computes: entry `j` of the result is the table at the position listed at `j` -/

/-- Position `n` of the flat table (any word names one, modulo the table's length). -/
def at1 (n : ℕ) : S1048576.Idx := fun a => ⟨n % 1048576, by
  match a with
  | ⟨0, _⟩ => exact Nat.mod_lt _ (by decide)⟩

/-- The table read at the listed positions. -/
def lookup (lin : S1048576.Idx → Elt F .i32) (tab : S1048576.Idx → Elt F .f32) : S1048576.Idx → Elt F .f32 :=
  fun j => tab (at1 (BitVec.toNat (lin j)))

/-! ## The pieces of the result: 128 runs of 8192 entries, four consecutive ones per tile -/

theorem odiv : 128 ∣ S1048576.size 0 := ⟨8192, rfl⟩

/-- The number of the `r`-th piece of tile `i` of SparseCore `c`. -/
def pieceIx (c : Fin 2) (i : Fin 16) (r : Fin 4) : Fin 128 := ⟨8 * i.val + 4 * c.val + r.val, by omega⟩

/-- The entries of that piece. -/
def oSet (c : Fin 2) (i : Fin 16) (r : Fin 4) : Finset S1048576.Idx := (Rect.part (s := S1048576) (a₀ := 0) odiv (pieceIx c i r)).set

theorem pieceIx_inj {c c' : Fin 2} {i i' : Fin 16} {r r' : Fin 4} (h : pieceIx c i r = pieceIx c' i' r') : (c, i, r) = (c', i', r') := by
  have h' := congrArg Fin.val h
  simp only [pieceIx] at h'
  refine Prod.ext (Fin.ext ?_) (Prod.ext (Fin.ext ?_) (Fin.ext ?_)) <;> simp only <;> omega

/-- All the pieces, as one family. -/
abbrev oFam (p : Fin 2 × Fin 16 × Fin 4) : Finset S1048576.Idx := oSet p.1 p.2.1 p.2.2

theorem oFam_disjoint : ∀ p ∈ (Finset.univ : Finset (Fin 2 × Fin 16 × Fin 4)), ∀ p' ∈ (Finset.univ : Finset (Fin 2 × Fin 16 × Fin 4)),
    p ≠ p' → Disjoint (oFam p) (oFam p') :=
  fun _ _ _ _ h => Rect.part_disjoint odiv fun e => h (pieceIx_inj e)

theorem oFam_cover : (Finset.univ : Finset (Fin 2 × Fin 16 × Fin 4)).biUnion oFam = Finset.univ := by
  ext x
  simp only [Finset.mem_biUnion, Finset.mem_univ, true_and, iff_true]
  have hx : x ∈ (Finset.univ : Finset (Fin 128)).biUnion fun n => (Rect.part (s := S1048576) (a₀ := 0) odiv n).set := by
    rw [Rect.biUnion_part odiv]; exact Finset.mem_univ x
  obtain ⟨n, -, hn⟩ := Finset.mem_biUnion.mp hx
  have hlt := n.isLt
  refine ⟨(⟨n.val / 4 % 2, by omega⟩, ⟨n.val / 8, by omega⟩, ⟨n.val % 4, by omega⟩), ?_⟩
  have e : pieceIx ⟨n.val / 4 % 2, by omega⟩ ⟨n.val / 8, by omega⟩ ⟨n.val % 4, by omega⟩ = n := by
    apply Fin.ext; simp only [pieceIx]; omega
  show x ∈ (Rect.part (s := S1048576) (a₀ := 0) odiv (pieceIx _ _ _)).set
  rw [e]; exact hn

/-! ## Read shares: halve a share `n` times -/

/-- Leaf `i` of the depth-`n` halving of share `q`, numbered by the halves taken, the last one first. -/
def leaf : (n : ℕ) → PosShare TreeShare → Fin (2 ^ n) → PosShare TreeShare
  | 0, q, _ => q
  | n + 1, q, i =>
    let k : Fin (2 ^ n) := ⟨i.val / 2, by have := i.isLt; omega⟩
    if i.val % 2 = 0 then (leaf n q k).left else (leaf n q k).right

/-- A leaf of depth `n + 1` is a leaf of depth `n` and a half of it. -/
def halfEquiv (n : ℕ) : Fin (2 ^ n) × Fin 2 ≃ Fin (2 ^ (n + 1)) where
  toFun p := ⟨2 * p.1.val + p.2.val, by have := p.1.isLt; have := p.2.isLt; omega⟩
  invFun i := (⟨i.val / 2, by have := i.isLt; omega⟩, ⟨i.val % 2, by omega⟩)
  left_inv p := by refine Prod.ext (Fin.ext ?_) (Fin.ext ?_) <;> simp only <;> omega
  right_inv i := by apply Fin.ext; simp only; omega

theorem leaf_even (n : ℕ) (q : PosShare TreeShare) (i : Fin (2 ^ n)) : leaf (n + 1) q (halfEquiv n (i, 0)) = (leaf n q i).left := by
  have h : (halfEquiv n (i, 0)).val = 2 * i.val := rfl
  have hk : (⟨(halfEquiv n (i, 0)).val / 2, by have := (halfEquiv n (i, 0)).isLt; omega⟩ : Fin (2 ^ n)) = i := Fin.ext (by simp only [h]; omega)
  simp only [leaf]
  rw [if_pos (by rw [h]; omega), hk]

theorem leaf_odd (n : ℕ) (q : PosShare TreeShare) (i : Fin (2 ^ n)) : leaf (n + 1) q (halfEquiv n (i, 1)) = (leaf n q i).right := by
  have h : (halfEquiv n (i, 1)).val = 2 * i.val + 1 := rfl
  have hk : (⟨(halfEquiv n (i, 1)).val / 2, by have := (halfEquiv n (i, 1)).isLt; omega⟩ : Fin (2 ^ n)) = i := Fin.ext (by simp only [h]; omega)
  simp only [leaf]
  rw [if_neg (by rw [h]; omega), hk]

/-- Holding elements at a share is holding them at every leaf of its halving. -/
theorem pointsTo_leaf {ℓ : Loc nD τ sig} (I : Finset (Idx ℓ)) (f : Buf (Elt F) ℓ) (q : PosShare TreeShare) (n : ℕ) :
    (ℓ ↦[I]{q} f : sProp 𝕄) = bigSep Finset.univ fun i : Fin (2 ^ n) => ℓ ↦[I]{leaf n q i} f := by
  induction n with
  | zero => exact (bigSep_univ_of_subsingleton (0 : Fin 1) (Φ := fun i : Fin (2 ^ 0) => (ℓ ↦[I]{leaf 0 q i} f : sProp 𝕄))).symm
  | succ n ih =>
    rw [ih, bigSep_univ_equiv (halfEquiv n) (fun i : Fin (2 ^ (n + 1)) => (ℓ ↦[I]{leaf (n + 1) q i} f : sProp 𝕄)), bigSep_univ_prod]
    refine bigSep_congr fun i _ => ?_
    rw [bigSep_univ_two, leaf_even, leaf_odd]
    exact BI.Entails.antisymm (pointsTo_share (PosShare.mem_left_op_right _)).1 (pointsTo_share (PosShare.mem_left_op_right _)).2

/-- SparseCore `c`'s half, and of it tile `i`'s sixteenth. -/
abbrev coreShare (c : Fin 2) : PosShare TreeShare := leaf 1 fullShare c
abbrev tileShare (c : Fin 2) (i : Fin 16) : PosShare TreeShare := leaf 4 (coreShare c) i

end Cert.Proof.Lookup

end
-- ==== Proof.Tile.lean ====
/-
  One tile's task. It holds a read share of the whole position list and of the whole table, and its own four pieces of
  the result; it runs the kernel body, and hands the pieces back with every entry looked up.
-/
module

public import proofs.«01_k».proof.Proof.Setup

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The whole of the position list. -/
abbrev nV : Memref sig .scVector .hbm S1048576 .i32 := Memref.whole main_v6_scv
/-- The whole of the flat table. -/
abbrev tV : Memref sig .scVector .hbm S1048576 .f32 := Memref.whole main_v7_scv
/-- The whole of the result. -/
abbrev oV : Memref sig .scVector .hbm S1048576 .f32 := Memref.whole main_v8_scv
/-- The whole of the first list scratch. -/
abbrev aV : Memref sig .scVector .vmem S8192 .i32 := Memref.whole cc0_scratch0
/-- The whole of the second list scratch. -/
abbrev bV : Memref sig .scVector .vmem S8192 .i32 := Memref.whole cc0_scratch1
/-- The whole of the first value scratch. -/
abbrev eV : Memref sig .scVector .vmem S8192 .f32 := Memref.whole cc0_scratch2
/-- The whole of the second value scratch. -/
abbrev gV : Memref sig .scVector .vmem S8192 .f32 := Memref.whole cc0_scratch3

/-! ## The tile at coordinates `L`: its processor, its pieces -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

/-- The tile's `r`-th run of 8192 entries, as the program spells its offset. -/
abbrev runK (L : grid0.Coords) (r : Fin 4) : Rect S1048576 :=
  Rect.unit (s := S1048576) (k0_off1 L (BitVec.ofNat 32 (8192 * r.val))) S8192.size (k0_off1_inb L r)
/-- That run of the position list, and of the result. -/
abbrev nRunK (L : grid0.Coords) (r : Fin 4) : Memref sig .scVector .hbm S8192 .i32 := (nV).slice (runK L r) (fun _ => rfl)
abbrev oRunK (L : grid0.Coords) (r : Fin 4) : Memref sig .scVector .hbm S8192 .f32 := (oV).slice (runK L r) (fun _ => rfl)
/-- The whole table, as the program slices it. -/
abbrev tAllK : Memref sig .scVector .hbm S1048576 .f32 := (tV).slice (Rect.unit (s := S1048576) ![0] S1048576.size inb_S1048576_S1048576_0) (fun _ => rfl)

theorem runK_eq (r : Fin 4) : runK L r = Rect.part (s := S1048576) (a₀ := 0) odiv (pieceIx (cL L) (jL L) r) := by
  unfold runK Rect.part Rect.block
  congr 1 <;> funext a
  · rw [k0_off1_eq]
    match a with
    | 0 => simp [Shape.partIx, Shape.partSize, pieceIx]; omega
  · match a with
    | 0 => simp [Shape.partSize]

theorem set_oRunK (r : Fin 4) : (oRunK L r).view.set = oSet (cL L) (jL L) r := by
  show ((View.whole (main_v8_scv : Ref sig .scVector)).slice (runK L r)).set = _
  rw [View.set_slice, runK_eq]
  exact Finset.map_refl

/-- A piece of the result, spelt by the program and by the launch. -/
theorem pts_oRunK (r : Fin 4) (f : Buf (Elt F) (oLoc d)) :
    ((oRunK L r).view.loc (V d (cV L) (jV L)) ↦[(oRunK L r).view.set]{fullShare} f : sProp 𝕄) = oLoc d ↦[oSet (cL L) (jL L) r]{fullShare} f := by
  rw [set_oRunK]

/-! ## The tile's own buffers and semaphores -/

abbrev cell (d : Dev nD) (c : Fin τ.nSC) (i : Fin τ.nSub) (s : DmaSem sig) : GSem nD τ sig := (V d c i, .dma s)

theorem ownSems0_V :
    (ownSems0 (V d (cV L) (jV L)) : sProp 𝕄)
      = iprop(semVal (cell d (cV L) (jV L) cc0_scratch4.sem) 0 ∗ semVal (cell d (cV L) (jV L) cc0_scratch5.sem) 0
          ∗ semVal (cell d (cV L) (jV L) cc0_scratch6.sem) 0 ∗ semVal (cell d (cV L) (jV L) cc0_scratch7.sem) 0
          ∗ semVal (cell d (cV L) (jV L) cc0_scratch8.sem) 0 ∗ semVal (cell d (cV L) (jV L) cc0_scratch9.sem) 0
          ∗ bigSep (((((((ownCells (V d (cV L) (jV L))).erase (cell d (cV L) (jV L) cc0_scratch4.sem)).erase (cell d (cV L) (jV L) cc0_scratch5.sem)).erase
              (cell d (cV L) (jV L) cc0_scratch6.sem)).erase (cell d (cV L) (jV L) cc0_scratch7.sem)).erase (cell d (cV L) (jV L) cc0_scratch8.sem)).erase
              (cell d (cV L) (jV L) cc0_scratch9.sem)) fun g => semVal g 0) := by
  have hmem : ∀ s : DmaSem sig, cell d (cV L) (jV L) s ∈ ownCells (V d (cV L) (jV L)) := fun s =>
    mem_ownCells.mpr ⟨rfl, (by decide : ∀ s : DmaSem sig, (SemLoc.dma s : SemLoc sig).isScoped .scVector = true) s⟩
  have hne : ∀ {s s' : DmaSem sig}, s ≠ s' → cell d (cV L) (jV L) s ≠ cell d (cV L) (jV L) s' := fun h e =>
    h (SemLoc.dma.inj (Prod.ext_iff.mp e).2)
  have h54 := hne (show (cc0_scratch5.sem : DmaSem sig) ≠ cc0_scratch4.sem by decide)
  have h64 := hne (show (cc0_scratch6.sem : DmaSem sig) ≠ cc0_scratch4.sem by decide)
  have h65 := hne (show (cc0_scratch6.sem : DmaSem sig) ≠ cc0_scratch5.sem by decide)
  have h74 := hne (show (cc0_scratch7.sem : DmaSem sig) ≠ cc0_scratch4.sem by decide)
  have h75 := hne (show (cc0_scratch7.sem : DmaSem sig) ≠ cc0_scratch5.sem by decide)
  have h76 := hne (show (cc0_scratch7.sem : DmaSem sig) ≠ cc0_scratch6.sem by decide)
  have h84 := hne (show (cc0_scratch8.sem : DmaSem sig) ≠ cc0_scratch4.sem by decide)
  have h85 := hne (show (cc0_scratch8.sem : DmaSem sig) ≠ cc0_scratch5.sem by decide)
  have h86 := hne (show (cc0_scratch8.sem : DmaSem sig) ≠ cc0_scratch6.sem by decide)
  have h87 := hne (show (cc0_scratch8.sem : DmaSem sig) ≠ cc0_scratch7.sem by decide)
  have h94 := hne (show (cc0_scratch9.sem : DmaSem sig) ≠ cc0_scratch4.sem by decide)
  have h95 := hne (show (cc0_scratch9.sem : DmaSem sig) ≠ cc0_scratch5.sem by decide)
  have h96 := hne (show (cc0_scratch9.sem : DmaSem sig) ≠ cc0_scratch6.sem by decide)
  have h97 := hne (show (cc0_scratch9.sem : DmaSem sig) ≠ cc0_scratch7.sem by decide)
  have h98 := hne (show (cc0_scratch9.sem : DmaSem sig) ≠ cc0_scratch8.sem by decide)
  unfold SparseCore.Cfg.ownSems0
  rw [SparseCore.bigSep_erase' (hmem cc0_scratch4.sem),
    SparseCore.bigSep_erase' (Finset.mem_erase.mpr ⟨h54, hmem cc0_scratch5.sem⟩),
    SparseCore.bigSep_erase' (Finset.mem_erase.mpr ⟨h65, Finset.mem_erase.mpr ⟨h64, hmem cc0_scratch6.sem⟩⟩),
    SparseCore.bigSep_erase' (Finset.mem_erase.mpr ⟨h76, Finset.mem_erase.mpr ⟨h75, Finset.mem_erase.mpr ⟨h74, hmem cc0_scratch7.sem⟩⟩⟩),
    SparseCore.bigSep_erase' (Finset.mem_erase.mpr ⟨h87, Finset.mem_erase.mpr ⟨h86, Finset.mem_erase.mpr ⟨h85,
      Finset.mem_erase.mpr ⟨h84, hmem cc0_scratch8.sem⟩⟩⟩⟩),
    SparseCore.bigSep_erase' (Finset.mem_erase.mpr ⟨h98, Finset.mem_erase.mpr ⟨h97, Finset.mem_erase.mpr ⟨h96,
      Finset.mem_erase.mpr ⟨h95, Finset.mem_erase.mpr ⟨h94, hmem cc0_scratch9.sem⟩⟩⟩⟩⟩)]

/-- Scratch buffer `b` of the tile, at some contents. -/
abbrev anyBuf (b : Ref sig .scVector) : sProp 𝕄 := iprop(∃ f, (V d (cV L) (jV L)).loc b ↦{fullShare} f)

theorem ownBufs_V :
    (ownBufs (V d (cV L) (jV L)) : sProp 𝕄)
      = iprop(anyBuf d L cc0_scratch0 ∗ anyBuf d L cc0_scratch1 ∗ anyBuf d L cc0_scratch2 ∗ anyBuf d L cc0_scratch3
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  have hne : ∀ {b b' : Ref sig .scVector}, b ≠ b' → (Proc.scVector (cV L) (jV L)).devRef b ≠ (Proc.scVector (cV L) (jV L)).devRef b' :=
    fun h e => h (Proc.devRef_injective _ e)
  have m0 := SparseCore.Cfg.mem_ownRefs_of_owner (p := Proc.scVector (cV L) (jV L)) (b := (Proc.scVector (cV L) (jV L)).devRef cc0_scratch0) rfl
  have m1 := SparseCore.Cfg.mem_ownRefs_of_owner (p := Proc.scVector (cV L) (jV L)) (b := (Proc.scVector (cV L) (jV L)).devRef cc0_scratch1) rfl
  have m2 := SparseCore.Cfg.mem_ownRefs_of_owner (p := Proc.scVector (cV L) (jV L)) (b := (Proc.scVector (cV L) (jV L)).devRef cc0_scratch2) rfl
  have m3 := SparseCore.Cfg.mem_ownRefs_of_owner (p := Proc.scVector (cV L) (jV L)) (b := (Proc.scVector (cV L) (jV L)).devRef cc0_scratch3) rfl
  have h10 := hne (show (cc0_scratch1 : Ref sig .scVector) ≠ cc0_scratch0 by decide)
  have h20 := hne (show (cc0_scratch2 : Ref sig .scVector) ≠ cc0_scratch0 by decide)
  have h21 := hne (show (cc0_scratch2 : Ref sig .scVector) ≠ cc0_scratch1 by decide)
  have h30 := hne (show (cc0_scratch3 : Ref sig .scVector) ≠ cc0_scratch0 by decide)
  have h31 := hne (show (cc0_scratch3 : Ref sig .scVector) ≠ cc0_scratch1 by decide)
  have h32 := hne (show (cc0_scratch3 : Ref sig .scVector) ≠ cc0_scratch2 by decide)
  unfold SparseCore.Cfg.ownBufs
  refine (SparseCore.bigSep_erase' m0).trans ?_
  rw [SparseCore.bigSep_erase' (Finset.mem_erase.mpr ⟨h10, m1⟩),
    SparseCore.bigSep_erase' (Finset.mem_erase.mpr ⟨h21, Finset.mem_erase.mpr ⟨h20, m2⟩⟩),
    SparseCore.bigSep_erase' (Finset.mem_erase.mpr ⟨h32, Finset.mem_erase.mpr ⟨h31, Finset.mem_erase.mpr ⟨h30, m3⟩⟩⟩)]

/-! ## The task -/

/-- What a tile holds of the position list and of the table: a share of each, whole. -/
abbrev nHeld (q : PosShare TreeShare) (lin : Buf (Elt F) (nLoc d)) : sProp 𝕄 := nLoc d ↦{q} lin
abbrev tHeld (q : PosShare TreeShare) (tab : Buf (Elt F) (tLoc d)) : sProp 𝕄 := tLoc d ↦{q} tab
/-- A piece of the result, at contents `f`. -/
abbrev oHeld (c : Fin 2) (i : Fin 16) (r : Fin 4) (f : Buf (Elt F) (oLoc d)) : sProp 𝕄 := oLoc d ↦[oSet c i r]{fullShare} f

variable [FloatOps F]

omit [FloatOps F] in
/-- A run of the position list, read through its slice. -/
theorem read_run (lin : Buf (Elt F) (nLoc d)) (r : Fin 4) (k : S8192.Idx) :
    (nRunK L r).view.read (Elt F) lin k = (lin ((runK L r).emb k) : Elt F .i32) :=
  (View.read_apply _ _).trans (cast_eq _ _)

omit [FloatOps F] in
/-- The positions a run's copy lands in the first scratch list are the run's, each inside the table. -/
theorem inb_a (lin : Buf (Elt F) (nLoc d)) (hlin : ∀ j : S1048576.Idx, (BitVec.toNat (lin j)) < 1048576) (r : Fin 4)
    (fs : Buf (Elt F) ((aV).view.loc (V d (cV L) (jV L)))) (x : S8192.Idx) :
    ((aV).view.read (Elt F) (View.write (Elt F) (aV).view fs ((nRunK L r).view.read (Elt F) lin) Finset.univ) x).toNat
      < S1048576.size gathers_S1048576_S8192.axis := by
  rw [View.write_whole_univ]
  simp only [Memref.view_whole, View.read_whole]
  rw [read_run]
  exact hlin _

omit [FloatOps F] in
/-- The same of the second scratch list. -/
theorem inb_b (lin : Buf (Elt F) (nLoc d)) (hlin : ∀ j : S1048576.Idx, (BitVec.toNat (lin j)) < 1048576) (r : Fin 4)
    (fs : Buf (Elt F) ((bV).view.loc (V d (cV L) (jV L)))) (x : S8192.Idx) :
    ((bV).view.read (Elt F) (View.write (Elt F) (bV).view fs ((nRunK L r).view.read (Elt F) lin) Finset.univ) x).toNat
      < S1048576.size gathers_S1048576_S8192.axis := by
  rw [View.write_whole_univ]
  simp only [Memref.view_whole, View.read_whole]
  rw [read_run]
  exact hlin _

omit [FloatOps F] in
/-- What the indirect gather delivers at place `k`: the table at the position its list names there. -/
theorem gather_val (tab : Buf (Elt F) (tLoc d)) (idx : S8192.Idx → Elt F .i32) (hn : S8192.numel = S8192.size gathers_S1048576_S8192.axis')
    (hin : ∀ x, (idx x).toNat < S1048576.size gathers_S1048576_S8192.axis) (k : S8192.Idx) :
    SparseCore.gatherPayload gathers_S1048576_S8192 ((tAllK).view.read (Elt F) tab) (SparseCore.rows idx hn hin) k
      = (tab (at1 (BitVec.toNat (idx k))) : Elt F .f32) := by
  have hk : S8192.rowMajor.symm ((k gathers_S1048576_S8192.axis').cast hn.symm) = k := by
    rw [Equiv.symm_apply_eq]
    apply Fin.ext
    rw [Shape.rowMajor_val_one]
    rfl
  unfold SparseCore.gatherPayload
  refine ((View.read_apply _ _).trans (cast_eq _ _)).trans ?_
  refine congrArg tab (funext fun a => Fin.ext ?_)
  match a with
  | ⟨0, _⟩ =>
    have e : ((tAllK).view.emb (gathers_S1048576_S8192.idx (SparseCore.rows idx hn hin) k) ⟨0, by decide⟩).val
        = (gathers_S1048576_S8192.idx (SparseCore.rows idx hn hin) k gathers_S1048576_S8192.axis).val := by
      show 0 + 1 * _ = _
      rw [Nat.one_mul, Nat.zero_add]
    refine e.trans ?_
    rw [Shape.Gathers.idx_axis]
    show (idx (S8192.rowMajor.symm ((k gathers_S1048576_S8192.axis').cast hn.symm))).toNat = (idx k).toNat % 1048576
    rw [hk]
    exact (Nat.mod_eq_of_lt (hin k)).symm

omit [FloatOps F] in
/-- A piece of the result written with the looked-up entries of its run holds them. -/
theorem piece_val (lin : Buf (Elt F) (nLoc d)) (tab : Buf (Elt F) (tLoc d)) (r : Fin 4) (f : Buf (Elt F) (oLoc d)) (w : S8192.Idx → Elt F .f32)
    (hw : ∀ k, w k = lookup lin tab ((runK L r).emb k)) :
    ∀ i ∈ (oRunK L r).view.set, (oRunK L r).view.writes (Elt F) f [⟨Rect.whole S8192, w⟩] i = lookup lin tab i := by
  intro i hi
  obtain ⟨k, -, rfl⟩ := Finset.mem_map.mp hi
  have h := congrFun (View.read_writes_whole (oRunK L r).view f w) k
  exact ((((View.read_apply _ _).trans (cast_eq _ _)).symm).trans h).trans (hw k)

omit [FloatOps F] in
/-- A whole buffer written whole last reads what was written. -/
theorem read_last {b : Ref sig .scVector} (f : b.ty.Contents (Elt F)) (w : b.ty.shape.Idx → Elt F b.ty.elt)
    (l : List (View.Piece (Elt F) b.ty.shape b.ty.elt)) (k : b.ty.shape.Idx) :
    (Memref.whole b).view.read (Elt F) ((Memref.whole b).view.writes (Elt F) f (⟨Rect.whole _, w⟩ :: l)) k = w k := by
  have h := View.read_writes_cons_emb (Memref.whole b).view f (Rect.whole _) w l k
  rwa [Rect.emb_whole_apply] at h

omit [FloatOps F] in
/-- A whole buffer written over reads what was written. -/
theorem read_over {b : Ref sig .scVector} (f : b.ty.Contents (Elt F)) (w : b.ty.shape.Idx → Elt F b.ty.elt) (k : b.ty.shape.Idx) :
    (Memref.whole b).view.read (Elt F) (View.write (Elt F) (Memref.whole b).view f w Finset.univ) k = w k := by
  rw [View.write_whole_univ]
  simp only [Memref.view_whole, View.read_whole]

set_option maxHeartbeats 1000000 in
theorem tile_body (hF : (K (F := F)).Facts) (q q' : PosShare TreeShare) (lin : Buf (Elt F) (nLoc d)) (tab : Buf (Elt F) (tLoc d))
    (hlin : ∀ j : S1048576.Idx, (BitVec.toNat (lin j)) < 1048576)
    (O : CellTallies nD τ sig (HIx 1)) (W : Waits sig (HIx 1)) (hO : ∀ g, O g none = 0) :
    iprop(levAts (K (F := F)).L (K (F := F)).lev ∗ emp
        ∗ (nHeld d q lin ∗ tHeld d q' tab ∗ (∃ f, oHeld d (cL L) (jL L) 0 f) ∗ (∃ f, oHeld d (cL L) (jL L) 1 f)
          ∗ (∃ f, oHeld d (cL L) (jL L) 2 f) ∗ (∃ f, oHeld d (cL L) (jL L) 3 f))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_kernel L nV (Memref.isWhole_whole _) tV (Memref.isWhole_whole _) oV (Memref.isWhole_whole _)
            aV (Memref.isWhole_whole _) bV (Memref.isWhole_whole _) eV (Memref.isWhole_whole _) gV (Memref.isWhole_whole _)
            cc0_scratch4 cc0_scratch5 cc0_scratch6 cc0_scratch7 cc0_scratch8 cc0_scratch9)
          fun _ => iprop((nHeld d q lin ∗ tHeld d q' tab ∗ oHeld d (cL L) (jL L) 0 (lookup lin tab) ∗ oHeld d (cL L) (jL L) 1 (lookup lin tab)
              ∗ oHeld d (cL L) (jL L) 2 (lookup lin tab) ∗ oHeld d (cL L) (jL L) 3 (lookup lin tab))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_kernel_eq_skeleton]; unfold cc0__gather_kernel_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨Hn, Ht, ⟨%f0, Ho0⟩, ⟨%f1, Ho1⟩, ⟨%f2, Ho2⟩, ⟨%f3, Ho3⟩⟩, ⟨⟨%fa, Ha⟩, ⟨%fb, Hb⟩, ⟨%fe, He⟩, ⟨%fg, Hg⟩, Hbufs⟩, ⟨Hs4, Hs5, Hs6, Hs7, Hs8, Hs9, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hn := (Entails.of_eq (show (nHeld d q lin : sProp 𝕄) = ((nV).view.loc (V d (cV L) (jV L)) ↦{q} lin) from rfl)) $$ Hn
  ihave Ht := (Entails.of_eq (show (tHeld d q' tab : sProp 𝕄) = ((tV).view.loc (V d (cV L) (jV L)) ↦{q'} tab) from rfl)) $$ Ht
  ihave Ho0 := (Entails.of_eq (pts_oRunK (F := F) d L 0 _).symm) $$ Ho0
  ihave Ho1 := (Entails.of_eq (pts_oRunK (F := F) d L 1 _).symm) $$ Ho1
  ihave Ho2 := (Entails.of_eq (pts_oRunK (F := F) d L 2 _).symm) $$ Ho2
  ihave Ho3 := (Entails.of_eq (pts_oRunK (F := F) d L 3 _).symm) $$ Ho3
  ihave Ha := (Entails.of_eq (show ((V d (cV L) (jV L)).loc cc0_scratch0 ↦{fullShare} fa : sProp 𝕄) = ((aV).view.loc (V d (cV L) (jV L)) ↦{fullShare} fa) from rfl)) $$ Ha
  ihave Hb := (Entails.of_eq (show ((V d (cV L) (jV L)).loc cc0_scratch1 ↦{fullShare} fb : sProp 𝕄) = ((bV).view.loc (V d (cV L) (jV L)) ↦{fullShare} fb) from rfl)) $$ Hb
  ihave He := (Entails.of_eq (show ((V d (cV L) (jV L)).loc cc0_scratch2 ↦{fullShare} fe : sProp 𝕄) = ((eV).view.loc (V d (cV L) (jV L)) ↦{fullShare} fe) from rfl)) $$ He
  ihave Hg := (Entails.of_eq (show ((V d (cV L) (jV L)).loc cc0_scratch3 ↦{fullShare} fg : sProp 𝕄) = ((gV).view.loc (V d (cV L) (jV L)) ↦{fullShare} fg) from rfl)) $$ Hg
  have hin0 := inb_a d L lin hlin 0
  have hin2 := inb_a d L lin hlin 2
  have hin1 := inb_b d L lin hlin 1
  have hin3 := inb_b d L lin hlin 3
  sl_exec
  have hv0 := piece_val d L lin tab 0 f0 (tile_body.sl.dma0_2 d L lin tab fa fe hin0) fun k =>
    (read_last (b := cc0_scratch2) _ _ _ k).trans ((gather_val d tab _ _ _ k).trans
      (congrArg (fun w : BitVec 32 => tab (at1 w.toNat)) ((read_over (b := cc0_scratch0) _ _ k).trans (read_run d L lin 0 k))))
  have hv1 := piece_val d L lin tab 1 f1 (tile_body.sl.dma0_4 d L lin tab fb fg hin1) fun k =>
    (read_last (b := cc0_scratch3) _ _ _ k).trans ((gather_val d tab _ _ _ k).trans
      (congrArg (fun w : BitVec 32 => tab (at1 w.toNat)) ((read_over (b := cc0_scratch1) _ _ k).trans (read_run d L lin 1 k))))
  have hv2 := piece_val d L lin tab 2 f2 (tile_body.sl.dma0_6 d L lin tab fa fe hin0 hin2) fun k =>
    (read_last (b := cc0_scratch2) _ _ _ k).trans ((gather_val d tab _ _ _ k).trans
      (congrArg (fun w : BitVec 32 => tab (at1 w.toNat)) ((read_over (b := cc0_scratch0) _ _ k).trans (read_run d L lin 2 k))))
  have hv3 := piece_val d L lin tab 3 f3 (tile_body.sl.dma0_7 d L lin tab fb fg hin1 hin3) fun k =>
    (read_last (b := cc0_scratch3) _ _ _ k).trans ((gather_val d tab _ _ _ k).trans
      (congrArg (fun w : BitVec 32 => tab (at1 w.toNat)) ((read_over (b := cc0_scratch1) _ _ k).trans (read_run d L lin 3 k))))
  ihave Ho0 := (Entails.of_eq ((pointsTo_congr hv0).trans (pts_oRunK (F := F) d L 0 (lookup lin tab)))) $$ Ho0
  ihave Ho1 := (Entails.of_eq ((pointsTo_congr hv1).trans (pts_oRunK (F := F) d L 1 (lookup lin tab)))) $$ Ho1
  ihave Ho2 := (Entails.of_eq ((pointsTo_congr hv2).trans (pts_oRunK (F := F) d L 2 (lookup lin tab)))) $$ Ho2
  ihave Ho3 := (Entails.of_eq ((pointsTo_congr hv3).trans (pts_oRunK (F := F) d L 3 (lookup lin tab)))) $$ Ho3
  sl_step
  isplitl [Hn Ht Ho0 Ho1 Ho2 Ho3]
  · isplitl [Hn]; · iexact Hn
    isplitl [Ht]; · iexact Ht
    isplitl [Ho0]; · iexact Ho0
    isplitl [Ho1]; · iexact Ho1
    isplitl [Ho2]; · iexact Ho2
    iexact Ho3
  isplitl [Ha Hb He Hg Hbufs]
  · isplitl [Ha]; · iexists _; iexact Ha
    isplitl [Hb]; · iexists _; iexact Hb
    isplitl [He]; · iexists _; iexact He
    isplitl [Hg]; · iexists _; iexact Hg
    iexact Hbufs
  isplitl [Hs4 Hs5 Hs6 Hs7 Hs8 Hs9 Hsems]
  · isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hsems
  iexists _; isplitr
  swap; · iexact HO
  ipureintro; intro p hp
  iterate 12 rcases Finset.mem_insert.mp hp with hp | hp; · exact .inr (hp ▸ rfl)
  exact .inl hp

end Tile

end Cert.Proof.Lookup

end
-- ==== Proof.Launch.lean ====
/-
  The launch: what each SparseCore and each tile is handed and hands back, how the whole arrays split into those parts
  and join again, the host operations before the call, and the run of the whole program.
-/
module

public import proofs.«01_k».proof.Proof.Tile

@[expose] public section

noncomputable section

namespace Cert.Proof.Lookup

open Cert.KernelIdeal Cert.KernelIdeal.Gen

open Idealize.ShloMosaic Idealize.ShloMosaic.StableHlo
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What the host operations before the call compute -/

/-- The position list: row times 1024 plus column. -/
def positions (x : S1048576x2.Idx → Elt F .i32) : S1048576.Idx → Elt F .i32 :=
  addi (muli (shapeCast S1048576 (extractStridedSlice S1048576x1 ![0, 0] x slices_S1048576x2_S1048576x1_0_0) shapeCasts_S1048576x1_S1048576)
      (broadcastInDim S1048576 ![] bcast_S_S1048576 (constantI S_ 32 1024#32)))
    (shapeCast S1048576 (extractStridedSlice S1048576x1 ![0, 1] x slices_S1048576x2_S1048576x1_0_1) shapeCasts_S1048576x1_S1048576)

/-- The table laid out flat. -/
def flat (w : S1024x1024.Idx → Elt F .f32) : S1048576.Idx → Elt F .f32 := shapeCast S1048576 w shapeCasts_S1024x1024_S1048576

variable (m : (ℓ : Loc nD τ sig) → Buf (Elt F) ℓ) (ρ : Dev nD → PrngReg)

abbrev xLoc (d : Dev nD) : Loc nD τ sig := (SparseCore.T d).loc main_arg0
abbrev wLoc (d : Dev nD) : Loc nD τ sig := (SparseCore.T d).loc main_arg1

/-- The list, the table and the looked-up entries, of the launch memory. -/
def LIN (d : Dev nD) : Buf (Elt F) (nLoc d) := positions (m (xLoc d))
def TAB (d : Dev nD) : Buf (Elt F) (tLoc d) := flat (m (wLoc d))
def OUT (d : Dev nD) : Buf (Elt F) (oLoc d) := lookup (LIN m d) (TAB m d)

/-- What the run asks of the launch memory: every listed position is inside the table. -/
def PreOK : Prop := ∀ (d : Dev nD) (j : S1048576.Idx), (BitVec.toNat (LIN m d j)) < 1048576

/-! ## The parts -/

/-- A tile's part: its read shares of the list and of the table, and its four pieces of the result. -/
abbrev tileIn (d : Dev nD) (c : Fin 2) (i : Fin 16) : sProp 𝕄 :=
  iprop(nHeld d (tileShare c i) (LIN m d) ∗ tHeld d (tileShare c i) (TAB m d) ∗ bigSep Finset.univ fun r : Fin 4 => iprop(∃ f, oHeld d c i r f))
abbrev tileOut (d : Dev nD) (c : Fin 2) (i : Fin 16) : sProp 𝕄 :=
  iprop(nHeld d (tileShare c i) (LIN m d) ∗ tHeld d (tileShare c i) (TAB m d) ∗ bigSep Finset.univ fun r : Fin 4 => oHeld d c i r (OUT m d))
/-- A SparseCore's part: its halves of the list and of the table, and its tiles' pieces of the result. -/
abbrev coreIn (d : Dev nD) (c : Fin 2) : sProp 𝕄 :=
  iprop(nHeld d (coreShare c) (LIN m d) ∗ tHeld d (coreShare c) (TAB m d)
    ∗ bigSep Finset.univ fun i : Fin 16 => bigSep Finset.univ fun r : Fin 4 => iprop(∃ f, oHeld d c i r f))
abbrev coreOut (d : Dev nD) (c : Fin 2) : sProp 𝕄 :=
  iprop(nHeld d (coreShare c) (LIN m d) ∗ tHeld d (coreShare c) (TAB m d)
    ∗ bigSep Finset.univ fun i : Fin 16 => bigSep Finset.univ fun r : Fin 4 => oHeld d c i r (OUT m d))

/-- What the handshakes carry. -/
def P : (K (F := F)).Pay (nD := nD) (Val := Elt F) (Name := ℕ) (U := UU) where
  st := fun q d c => match q with | 0 => coreIn m d (Fin.cast nCore_zero c)
  dn := fun q d c => match q with | 0 => coreOut m d (Fin.cast nCore_zero c)
  go := fun q d c i => match q with | 0 => tileIn m d (Fin.cast nCore_zero c) (Fin.cast nSub_zero i)
  td := fun q d c i => match q with | 0 => tileOut m d (Fin.cast nCore_zero c) (Fin.cast nSub_zero i)
  x := fun _ _ => iprop(emp)

instance P_storable : (P (F := F) m).IsStorable where
  st q _ _ := match q with | 0 => by unfold P; infer_instance
  dn q _ _ := match q with | 0 => by unfold P; infer_instance
  go q _ _ _ := match q with | 0 => by unfold P; infer_instance
  td q _ _ _ := match q with | 0 => by unfold P; infer_instance

/-! ## Splitting and joining -/

omit [FloatOps F] in
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

omit [FloatOps F] in
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's part is its tiles' parts. -/
theorem coreIn_tiles (d : Dev nD) (c : Fin 2) : coreIn m d c = bigSep Finset.univ fun i : Fin 16 => tileIn m d c i := by
  unfold coreIn tileIn
  rw [bigSep_sep', bigSep_sep']
  unfold nHeld tHeld
  rw [pointsTo_leaf Finset.univ (LIN m d) (coreShare c) 4, pointsTo_leaf Finset.univ (TAB m d) (coreShare c) 4]
  rfl

theorem coreOut_tiles (d : Dev nD) (c : Fin 2) : coreOut m d c = bigSep Finset.univ fun i : Fin 16 => tileOut m d c i := by
  unfold coreOut tileOut
  rw [bigSep_sep', bigSep_sep']
  unfold nHeld tHeld
  rw [pointsTo_leaf Finset.univ (LIN m d) (coreShare c) 4, pointsTo_leaf Finset.univ (TAB m d) (coreShare c) 4]
  rfl

theorem vecSplit : (K (F := F)).VecSplit' (P m) 0 := by
  intro d c
  show coreIn m d (Fin.cast nCore_zero c) ⊢ |={Set.univ}=> iprop(
      (bigSep Finset.univ fun i : Fin ((K (F := F)).nSub 0) => tileIn m d (Fin.cast nCore_zero c) (Fin.cast nSub_zero i))
      ∗ ((bigSep Finset.univ fun i : Fin ((K (F := F)).nSub 0) => tileOut m d (Fin.cast nCore_zero c) (Fin.cast nSub_zero i))
          -∗ coreOut m d (Fin.cast nCore_zero c)))
  rw [bigSep_tiles (F := F) (fun i => tileIn m d (Fin.cast nCore_zero c) i), bigSep_tiles (F := F) (fun i => tileOut m d (Fin.cast nCore_zero c) i),
    coreIn_tiles, coreOut_tiles]
  iintro H; imodintro
  isplitl [H]; · iexact H
  iintro H; iexact H

omit [FloatOps F] in
/-- The whole result is its pieces. -/
theorem out_pieces (d : Dev nD) (f : Buf (Elt F) (oLoc d)) :
    (oLoc d ↦{fullShare} f : sProp 𝕄)
      = bigSep Finset.univ fun c : Fin 2 => bigSep Finset.univ fun i : Fin 16 => bigSep Finset.univ fun r : Fin 4 => oHeld d c i r f := by
  rw [show (oLoc d ↦{fullShare} f : sProp 𝕄) = bigSep Finset.univ fun p : Fin 2 × Fin 16 × Fin 4 => oLoc d ↦[oFam p]{fullShare} f by
      rw [← pointsTo_biUnion Finset.univ (ℓ := oLoc d) oFam oFam_disjoint, oFam_cover]; try rfl,
    bigSep_univ_prod]
  exact bigSep_congr fun c _ => bigSep_univ_prod _

omit [FloatOps F] in
theorem some_piece (d : Dev nD) (c : Fin 2) (i : Fin 16) (r : Fin 4) (f : Buf (Elt F) (oLoc d)) :
    (oHeld d c i r f : sProp 𝕄) ⊢ iprop(∃ f, oHeld d c i r f) := by
  iintro H; iexists f; iexact H

/-- The three arrays whole make the two SparseCores' parts. -/
theorem cores_split (d : Dev nD) (f : Buf (Elt F) (oLoc d)) :
    iprop((nLoc d ↦{fullShare} LIN m d) ∗ (tLoc d ↦{fullShare} TAB m d) ∗ oLoc d ↦{fullShare} f)
      ⊢ (bigSep Finset.univ fun c : Fin ((K (F := F)).nCore 0) => (P m).st 0 d c : sProp 𝕄) := by
  rw [show (bigSep Finset.univ fun c : Fin ((K (F := F)).nCore 0) => (P m).st 0 d c : sProp 𝕄) = bigSep Finset.univ fun c : Fin 2 => coreIn m d c from
      bigSep_cores (F := F) (fun c => coreIn m d c)]
  unfold coreIn
  rw [bigSep_sep', bigSep_sep', out_pieces, pointsTo_leaf Finset.univ (LIN m d) fullShare 1, pointsTo_leaf Finset.univ (TAB m d) fullShare 1]
  refine sep_mono .rfl (sep_mono .rfl ?_)
  refine bigSep_mono fun c _ => bigSep_mono fun i _ => bigSep_mono fun r _ => some_piece d c i r f

/-- The two SparseCores' parts back make the three arrays whole, the result looked up. -/
theorem cores_join (d : Dev nD) :
    (bigSep Finset.univ fun c : Fin ((K (F := F)).nCore 0) => (P m).dn 0 d c : sProp 𝕄)
      = iprop((nLoc d ↦{fullShare} LIN m d) ∗ (tLoc d ↦{fullShare} TAB m d) ∗ oLoc d ↦{fullShare} OUT m d) := by
  rw [show (bigSep Finset.univ fun c : Fin ((K (F := F)).nCore 0) => (P m).dn 0 d c : sProp 𝕄) = bigSep Finset.univ fun c : Fin 2 => coreOut m d c from
      bigSep_cores (F := F) (fun c => coreOut m d c)]
  unfold coreOut
  rw [bigSep_sep', bigSep_sep', out_pieces, pointsTo_leaf Finset.univ (LIN m d) fullShare 1, pointsTo_leaf Finset.univ (TAB m d) fullShare 1]
  rfl

/-! ## The tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_kernel (coordsV c s)
          (Memref.whole main_v6_scv) (Memref.isWhole_whole _) (Memref.whole main_v7_scv) (Memref.isWhole_whole _)
          (Memref.whole main_v8_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _)
          cc0_scratch4 cc0_scratch5 cc0_scratch6 cc0_scratch7 cc0_scratch8 cc0_scratch9) ⟨⟩ c s := rfl

theorem tileIn_four (d : Dev nD) (c : Fin 2) (i : Fin 16) :
    (tileIn m d c i : sProp 𝕄) = iprop(nHeld d (tileShare c i) (LIN m d) ∗ tHeld d (tileShare c i) (TAB m d)
      ∗ (∃ f, oHeld d c i 0 f) ∗ (∃ f, oHeld d c i 1 f) ∗ (∃ f, oHeld d c i 2 f) ∗ (∃ f, oHeld d c i 3 f)) := by
  unfold tileIn; rw [bigSep_four]

theorem tileOut_four (d : Dev nD) (c : Fin 2) (i : Fin 16) :
    (tileOut m d c i : sProp 𝕄) = iprop(nHeld d (tileShare c i) (LIN m d) ∗ tHeld d (tileShare c i) (TAB m d)
      ∗ oHeld d c i 0 (OUT m d) ∗ oHeld d c i 1 (OUT m d) ∗ oHeld d c i 2 (OUT m d) ∗ oHeld d c i 3 (OUT m d)) := by
  unfold tileOut; rw [bigSep_four]

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [show (P m).go 0 d c i = tileIn m d (Fin.cast nCore_zero c) (Fin.cast nSub_zero i) from rfl,
    show (P m).td 0 d c i = tileOut m d (Fin.cast nCore_zero c) (Fin.cast nSub_zero i) from rfl, tileIn_four, tileOut_four]
  exact (tile_body d (coordsV ⟨_, hci.1⟩ ⟨_, hci.2⟩) hF (tileShare (Fin.cast nCore_zero c) (Fin.cast nSub_zero i))
    (tileShare (Fin.cast nCore_zero c) (Fin.cast nSub_zero i)) (LIN m d) (TAB m d) (hpre d) O W hO).trans (wp_mono frame _ _ fun _ => obl_post)

/-! ## The launch element of the ghost state -/

def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## The host operations and the call -/

/-- The operations before the call, as one line. -/
abbrev hostOps : List (HloOp τ sig (Elt F)) :=
  [StableHlo.unary main_arg0 main_v0 ((extractStridedSlice S1048576x1 ![0, 0] · slices_S1048576x2_S1048576x1_0_0) : (⟨S1048576x2, .i32⟩ : BufTy).Contents (Elt F) → (⟨S1048576x1, .i32⟩ : BufTy).Contents (Elt F)),
   StableHlo.reshape main_v0 main_v1 (rfl : (.i32 : EltTy) = .i32) shapeCasts_S1048576x1_S1048576,
   StableHlo.nullary main_c (constantI S_ 32 1024#32),
   StableHlo.unary main_c main_v2 (broadcastInDim S1048576 ![] bcast_S_S1048576 : (⟨S_, .i32⟩ : BufTy).Contents (Elt F) → (⟨S1048576, .i32⟩ : BufTy).Contents (Elt F)),
   StableHlo.binary main_v1 main_v2 main_v3 (muli : (⟨S1048576, .i32⟩ : BufTy).Contents (Elt F) → (⟨S1048576, .i32⟩ : BufTy).Contents (Elt F) → (⟨S1048576, .i32⟩ : BufTy).Contents (Elt F)),
   StableHlo.unary main_arg0 main_v4 ((extractStridedSlice S1048576x1 ![0, 1] · slices_S1048576x2_S1048576x1_0_1) : (⟨S1048576x2, .i32⟩ : BufTy).Contents (Elt F) → (⟨S1048576x1, .i32⟩ : BufTy).Contents (Elt F)),
   StableHlo.reshape main_v4 main_v5 (rfl : (.i32 : EltTy) = .i32) shapeCasts_S1048576x1_S1048576,
   StableHlo.binary main_v3 main_v5 main_v6 (addi : (⟨S1048576, .i32⟩ : BufTy).Contents (Elt F) → (⟨S1048576, .i32⟩ : BufTy).Contents (Elt F) → (⟨S1048576, .i32⟩ : BufTy).Contents (Elt F)),
   StableHlo.reshape main_arg1 main_v7 (rfl : (.f32 : EltTy) = .f32) shapeCasts_S1024x1024_S1048576]

theorem main_eq (d : Dev nD) : main (F := F) d = StableHlo.seq hostOps >>= fun _ => (do (sc (F := F)).run d 0; pure ⟨⟩) := by
  rw [StableHlo.seq_bind_seqK]; rfl

/-- The TensorCore's unscoped arrays: the two arguments, the intermediate ones, the list, the table, the result. -/
abbrev hostRefs : Finset (Ref sig .tc) :=
  {main_arg0, main_arg1, main_v6, main_v7, main_v8, main_v0, main_v1, main_c, main_v2, main_v3, main_v4, main_v5}
abbrev hostBufs : Finset (DevRef τ sig) := hostRefs.map ⟨Proc.devRef (sig := sig) (.tc : Proc τ), Proc.devRef_injective _⟩

def V0 (d : Dev nD) : Valuation τ sig (Elt F) := fun b => m (d, b)
def V1 (d : Dev nD) : Valuation τ sig (Elt F) := StableHlo.after hostOps (V0 m d)

omit [FloatOps F] in
theorem held_bufs (d : Dev nD) (W : Valuation τ sig (Elt F)) :
    (held (T d) hostBufs W : sProp 𝕄) = bigSep hostRefs fun b => (SparseCore.T d).loc b ↦{fullShare} W (Proc.devRef .tc b) := by
  unfold held hostBufs
  rw [bigSep_map]; rfl

omit [FloatOps F] in
theorem unscoped_held (d : Dev nD) : (unscopedBufs d (fun b => m ((SparseCore.T d).loc b)) : sProp 𝕄) = held (T d) hostBufs (V0 m d) := by
  rw [held_bufs]
  unfold unscopedBufs
  rw [show (Finset.univ.filter fun b : Ref sig .tc => ¬ b.isScoped) = hostRefs by decide]
  rfl

theorem V1_x (d : Dev nD) : V1 m d (Proc.devRef .tc main_arg0) = m (xLoc d) := by
  unfold V1; after_results; rfl
theorem V1_w (d : Dev nD) : V1 m d (Proc.devRef .tc main_arg1) = m (wLoc d) := by
  unfold V1; after_results; rfl
theorem V1_n (d : Dev nD) : V1 m d (Proc.devRef .tc main_v6) = LIN m d := by
  unfold V1; after_results; rfl
theorem V1_t (d : Dev nD) : V1 m d (Proc.devRef .tc main_v7) = TAB m d := by
  unfold V1; after_results; rfl

/-- The arrays after the host operations: the arguments as launched, the list, the table, the result at some contents, and the rest. -/
theorem held_V1 (d : Dev nD) :
    ∃ R : sProp 𝕄, (held (T d) hostBufs (V1 m d) : sProp 𝕄)
      = iprop((xLoc d ↦{fullShare} m (xLoc d)) ∗ (wLoc d ↦{fullShare} m (wLoc d)) ∗ (nLoc d ↦{fullShare} LIN m d)
          ∗ (tLoc d ↦{fullShare} TAB m d) ∗ (oLoc d ↦{fullShare} V1 m d (Proc.devRef .tc main_v8)) ∗ R) := by
  refine ⟨bigSep {main_v0, main_v1, main_c, main_v2, main_v3, main_v4, main_v5} fun b => (SparseCore.T d).loc b ↦{fullShare} V1 m d (Proc.devRef .tc b), ?_⟩
  rw [held_bufs]
  unfold hostRefs
  rw [SparseCore.bigSep_insert' (by decide), SparseCore.bigSep_insert' (by decide), SparseCore.bigSep_insert' (by decide),
    SparseCore.bigSep_insert' (by decide), SparseCore.bigSep_insert' (by decide), V1_x, V1_w, V1_n, V1_t]

/-- What @main leaves the claims: the arguments as launched, the result looked up. -/
abbrev FIN (d : Dev nD) : sProp 𝕄 :=
  iprop((xLoc d ↦{fullShare} m (xLoc d)) ∗ (wLoc d ↦{fullShare} m (wLoc d)) ∗ oLoc d ↦{fullShare} OUT m d)

theorem hostOps_bufs : ∀ op ∈ hostOps (F := F), op.bufs ⊆ hostBufs := by
  intro op hop
  simp only [List.mem_cons, List.not_mem_nil, or_false] at hop
  rcases hop with rfl | rfl | rfl | rfl | rfl | rfl | rfl | rfl | rfl
  · show ({Proc.devRef .tc main_arg0, Proc.devRef .tc main_v0} : Finset (DevRef τ sig)) ⊆ hostBufs; decide
  · show ({Proc.devRef .tc main_v0, Proc.devRef .tc main_v1} : Finset (DevRef τ sig)) ⊆ hostBufs; decide
  · show ({Proc.devRef .tc main_c} : Finset (DevRef τ sig)) ⊆ hostBufs; decide
  · show ({Proc.devRef .tc main_c, Proc.devRef .tc main_v2} : Finset (DevRef τ sig)) ⊆ hostBufs; decide
  · show ({Proc.devRef .tc main_v1, Proc.devRef .tc main_v2, Proc.devRef .tc main_v3} : Finset (DevRef τ sig)) ⊆ hostBufs; decide
  · show ({Proc.devRef .tc main_arg0, Proc.devRef .tc main_v4} : Finset (DevRef τ sig)) ⊆ hostBufs; decide
  · show ({Proc.devRef .tc main_v4, Proc.devRef .tc main_v5} : Finset (DevRef τ sig)) ⊆ hostBufs; decide
  · show ({Proc.devRef .tc main_v3, Proc.devRef .tc main_v5, Proc.devRef .tc main_v6} : Finset (DevRef τ sig)) ⊆ hostBufs; decide
  · show ({Proc.devRef .tc main_arg1, Proc.devRef .tc main_v7} : Finset (DevRef τ sig)) ⊆ hostBufs; decide

theorem hostOps_fresh : ∀ op ∈ hostOps (F := F), op.fresh = ∅ := by
  intro op hop
  simp only [List.mem_cons, List.not_mem_nil, or_false] at hop
  rcases hop with rfl | rfl | rfl | rfl | rfl | rfl | rfl | rfl | rfl <;> rfl

/-- @main on device `d`'s TensorCore: the host operations, then the call from the list, the table and the result's array. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  obtain ⟨R, hR⟩ := held_V1 m d
  rw [unscoped_held, main_eq]
  iintro ⟨#Hctx, Hst, ⟨Hb, Hheld, Hts, -⟩, -⟩
  iapply (wp_seq 𝒱 none Set.univ d hostBufs _ hostOps hostOps_bufs hostOps_fresh (V0 m d)) $$ [Hb Hheld]
  · isplitl [Hb] <;> iassumption
  iintro ⟨Hb, Hheld⟩
  ihave Hh := (Entails.of_eq (show held (T d) hostBufs (after hostOps (V0 m d)) = _ from hR)) $$ Hheld
  icases Hh with ⟨Hx, Hw, Hn, Ht, Ho, -⟩
  simp only [wp_bind, wp_pure]
  iapply ((K (F := F)).wp_run (D (F := F)) 𝒱 (EH := EH) (P := P m) κ d 0) $$ [Hst Hn Ht Ho Hb Hts Hx Hw]
  isplitr; · iexact Hctx
  isplitl [Hst]; · iexact Hst
  isplitl [Hn Ht Ho]
  · iapply (cores_split m d _)
    isplitl [Hn]; · iexact Hn
    isplitl [Ht]; · iexact Ht
    iexact Ho
  iintro ⟨Hst, Hdn⟩
  ihave Hdn' := (Entails.of_eq (cores_join m d)) $$ Hdn
  icases Hdn' with ⟨-, -, Ho⟩
  imodintro
  isplitl [Hst]; · iexact Hst
  isplitr [Hb Hts]
  · isplitl [Hx]; · iexact Hx
    isplitl [Hw]; · iexact Hw
    iexact Ho
  isplitl [Hb] <;> iassumption

/-- What the claims read of device `d`'s final memory. -/
def fq (d : Dev nD) (s' : Phys nD τ sig (Elt F)) : Prop :=
  s'.mem.mem (oLoc d) = OUT m d ∧ s'.mem.mem (xLoc d) = m (xLoc d) ∧ s'.mem.mem (wLoc d) = m (wLoc d)

theorem hfin (d : Dev nD) (s' : Phys nD τ sig (Elt F)) : iprop(FIN m d ∗ SI s') ⊢ (⌜fq m d s'⌝ : sProp 𝕄) := by
  iintro ⟨⟨Hx, Hw, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h2, HSI, -⟩
  ihave H := (SI_pointsTo_agree (st := s') (ℓ := oLoc d) (I := Finset.univ) (q := fullShare) (f := OUT m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r =>
  (∀ c : Dev nD, r.2.mem (oLoc c) = OUT m c ∧ r.2.mem (xLoc c) = m (xLoc c) ∧ r.2.mem (wLoc c) = m (wLoc c)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Lookup

end
-- ==== Proof.Value.lean ====
/-
  What is computed, entry by entry: the position list and the flat table the host prepares, the looked-up entry as one
  entry of the two-dimensional table, and what the input condition says of the indices.
-/
module

public import proofs.«01_k».proof.Proof.Launch
public import proofs.«01_k».proof.Proof.Gen.Pre_queries_in_domain
public import Idealize.ShloMosaic.Lib.PointwiseCore
public import Idealize.ShloMosaic.Lib.ReduceAll

@[expose] public section

noncomputable section

namespace Cert.Proof.Lookup

open Cert.KernelIdeal Cert.KernelIdeal.Gen
open Idealize.ShloMosaic Idealize.SL.Sem

variable {F : FTy → Type} [FloatOps F]

/-! ## The input condition -/

/-- Every index is a row or column number of the table. -/
def InTable (x : S1048576x2.Idx → BitVec 32) : Prop := ∀ i, (x i).toNat < 1024

omit [FloatOps F] in
theorem word_lt {v : BitVec 32} (h0 : IntOp.cmpi .sge v 0#32 = 1#1) (h1 : IntOp.cmpi .slt v 1024#32 = 1#1) : v.toNat < 1024 := by
  have one : ∀ p : Bool, (BitVec.ofBool p = 1#1) → p = true := by decide
  have h0 := one _ h0
  have h1 := one _ h1
  simp only [BitVec.sle_eq_decide, BitVec.slt_eq_decide, decide_eq_true_eq, BitVec.toInt_eq_toNat_cond, BitVec.toNat_ofNat,
    Nat.reducePow, Nat.reduceMod] at h0 h1
  omega

/-- The input condition, all ones, says so. -/
theorem inTable_of_pre (x : IVec S1048576x2 32) (w : FVec F S1024x1024 .f32)
    (h : Cert.Pre_queries_in_domain.fn (F := F) x w = fun _ => 1#1) : InTable x := by
  intro i
  have e := congrFun h ix0
  unfold Cert.Pre_queries_in_domain.fn at e
  obtain ⟨e0, e1⟩ := IntOp.andi_eq_one.1 e
  exact word_lt (Host.reduce_andi_all _ _ _ _ _ e0 i) (Host.reduce_andi_all _ _ _ _ _ e1 i)

/-! ## The prepared list and table at an entry -/

theorem positions_apply (x : S1048576x2.Idx → Elt F .i32) (j : Fin 1048576) :
    positions x (ix1 j) = IntOp.addi (IntOp.muli (x (ix2 j 0)) 1024#32) (x (ix2 j 1)) := by
  pointwise [positions]

theorem flat_apply (w : S1024x1024.Idx → Elt F .f32) (k : Fin 1048576) :
    flat w (ix1 k) = w (ix2 ⟨k.val / 1024, by omega⟩ ⟨k.val % 1024, by omega⟩) := by
  pointwise [flat]

/-- The position of entry `j`, as a number. -/
theorem positions_toNat (x : S1048576x2.Idx → Elt F .i32) (hx : InTable x) (j : Fin 1048576) :
    (positions x (ix1 j) : BitVec 32).toNat = (x (ix2 j 0) : BitVec 32).toNat * 1024 + (x (ix2 j 1) : BitVec 32).toNat := by
  have h0 := hx (ix2 j 0)
  have h1 := hx (ix2 j 1)
  rw [positions_apply]
  show (BitVec.add (BitVec.mul _ _) _).toNat = _
  simp only [BitVec.add_eq, BitVec.mul_eq, BitVec.toNat_add, BitVec.toNat_mul, BitVec.toNat_ofNat, Nat.reducePow, Nat.reduceMod]
  omega

theorem preOK_of_inTable (m : (ℓ : Loc nD τ sig) → Buf (Elt F) ℓ) (h : ∀ d, InTable (m (xLoc d))) : PreOK m := by
  intro d j
  rw [eq_ix1 j]
  have h0 := h d (ix2 (j 0) 0)
  have h1 := h d (ix2 (j 0) 1)
  refine lt_of_eq_of_lt (positions_toNat (m (xLoc d)) (h d) (j 0)) ?_
  omega

/-- The looked-up entry, in the two-dimensional table. -/
theorem lookup_apply (x : S1048576x2.Idx → Elt F .i32) (w : S1024x1024.Idx → Elt F .f32) (hx : InTable x) (j : Fin 1048576) :
    lookup (positions x) (flat w) (ix1 j) = w (ix2 ⟨(x (ix2 j 0) : BitVec 32).toNat, hx _⟩ ⟨(x (ix2 j 1) : BitVec 32).toNat, hx _⟩) := by
  have h0 := hx (ix2 j 0)
  have h1 := hx (ix2 j 1)
  unfold lookup
  rw [positions_toNat x hx j]
  have e : (at1 ((x (ix2 j 0) : BitVec 32).toNat * 1024 + (x (ix2 j 1) : BitVec 32).toNat) 0).val
      = (x (ix2 j 0) : BitVec 32).toNat * 1024 + (x (ix2 j 1) : BitVec 32).toNat := Nat.mod_eq_of_lt (by omega)
  refine (congrArg (flat w) (eq_ix1 _)).trans ((flat_apply w _).trans ?_)
  congr 1
  congr 1 <;> apply Fin.ext <;> simp only [e] <;> omega

end Cert.Proof.Lookup

end
-- ==== Proof.RefValue.lean ====
/-
  What the reference computes, entry by entry: for indices inside the table its sign corrections and its clamp change
  nothing, its mask of negative rows is empty, and entry `j` is the table's entry at row `x[j, 0]`, column `x[j, 1]`.
-/
module

public import proofs.«01_k».proof.Proof.Value
public import proofs.«01_k».proof.Proof.Gen.ReferenceIdeal

@[expose] public section

noncomputable section

namespace Cert.Proof.Lookup

open Cert.ReferenceIdeal Cert.ReferenceIdeal.Gen
open Idealize.ShloMosaic Idealize.SL.Sem

variable {F : FTy → Type} [FloatOps F]

/-! ## Words -/

/-- A word below 1024 is not negative. -/
theorem not_neg {v : BitVec 32} (h : v.toNat < 1024) : IntOp.cmpi .slt v 0#32 = 0#1 := by
  have e : v.slt 0#32 = false := by
    rw [BitVec.slt_eq_decide, decide_eq_false_iff_not, BitVec.toInt_eq_toNat_cond]
    simp only [BitVec.toInt_zero, Nat.reducePow]
    omega
  show BitVec.ofBool (v.slt 0#32) = 0#1
  rw [e]
  rfl

/-- A word below 1024, read as a signed number and clamped to the table, is itself. -/
theorem clamped {v : BitVec 32} (h : v.toNat < 1024) : min v.toInt.toNat (1024 - 1) = v.toNat := by
  rw [BitVec.toInt_eq_toNat_cond]
  simp only [Nat.reducePow]
  omega

/-- A left fold by `or` that starts at 0 and meets only 0s is 0. -/
theorem foldl_or_zero {ι : Type} (f : ι → BitVec 1) (hf : ∀ n, f n = 0#1) :
    ∀ l : List ι, l.foldl (fun r n => IntOp.ori r (f n)) 0#1 = 0#1
  | [] => rfl
  | a :: l => by
    have e : IntOp.ori 0#1 (f a) = 0#1 := by rw [hf a]; rfl
    rw [List.foldl_cons, e]
    exact foldl_or_zero f hf l

/-! ## The reference as one term -/

/-- Column `0` of the indices. -/
def col0 (x : S1048576x2.Idx → Elt F .i32) : S1048576.Idx → Elt F .i32 :=
  shapeCast S1048576 (extractStridedSlice S1048576x1 ![0, 0] x slices_S1048576x2_S1048576x1_0_0) shapeCasts_S1048576x1_S1048576

/-- Column `1` of the indices. -/
def col1 (x : S1048576x2.Idx → Elt F .i32) : S1048576.Idx → Elt F .i32 :=
  shapeCast S1048576 (extractStridedSlice S1048576x1 ![0, 1] x slices_S1048576x2_S1048576x1_0_1) shapeCasts_S1048576x1_S1048576

/-- A column with 1024 added where it is negative. -/
def wrapped (v : S1048576.Idx → Elt F .i32) : S1048576.Idx → Elt F .i32 :=
  select (cmpi .slt v (broadcastInDim S1048576 ![] bcast_S_S1048576 (constantI S_ 32 0#32)))
    (addi v (broadcastInDim S1048576 ![] bcast_S_S1048576 (constantI S_ 32 1024#32))) v

/-- The two corrected columns side by side. -/
def starts (x : S1048576x2.Idx → Elt F .i32) : S1048576x2.Idx → Elt F .i32 :=
  concatenate S1048576x2 1 [⟨S1048576x1, broadcastInDim S1048576x1 ![0] bcast_S1048576_S1048576x1_0 (wrapped (F := F) (col0 (F := F) x))⟩,
    ⟨S1048576x1, broadcastInDim S1048576x1 ![0] bcast_S1048576_S1048576x1_0 (wrapped (F := F) (col1 (F := F) x))⟩]
    concatenates_S1048576x1_S1048576x1_S1048576x2_d1

/-- The rows with a negative index. -/
def negRows (x : S1048576x2.Idx → Elt F .i32) : S1048576.Idx → Elt F .i1 :=
  Host.reduce IntOp.ori (cmpi .slt x (broadcastInDim S1048576x2 ![] bcast_S_S1048576x2 (constantI S_ 32 0#32)))
    (constantI S_ 1 0#1) reducesTo_S1048576x2_S1048576_d1 h_S_

/-- The reference's result. -/
def refOut (x : S1048576x2.Idx → Elt F .i32) (w : S1024x1024.Idx → Elt F .f32) : S1048576.Idx → Elt F .f32 :=
  select (negRows (F := F) x) (broadcastInDim S1048576 ![] bcast_S_S1048576 (constant S_ .f32 0x00000000#32))
    (Host.gather gather_S1024x1024_S1048576x2_S1048576_n_01_n_n_01_1_11 w (starts (F := F) x))

/-! ## Its parts at an entry -/

theorem wrapped_col0 (x : S1048576x2.Idx → Elt F .i32) (hx : InTable x) (j : Fin 1048576) :
    wrapped (F := F) (col0 (F := F) x) (ix1 j) = x (ix2 j 0) := by
  have e : col0 (F := F) x (ix1 j) = x (ix2 j 0) := by pointwise [col0]
  show Scalar.select (IntOp.cmpi .slt (col0 (F := F) x (ix1 j)) 0#32) _ (col0 (F := F) x (ix1 j)) = _
  rw [e, not_neg (hx (ix2 j 0))]
  rfl

theorem wrapped_col1 (x : S1048576x2.Idx → Elt F .i32) (hx : InTable x) (j : Fin 1048576) :
    wrapped (F := F) (col1 (F := F) x) (ix1 j) = x (ix2 j 1) := by
  have e : col1 (F := F) x (ix1 j) = x (ix2 j 1) := by pointwise [col1]
  show Scalar.select (IntOp.cmpi .slt (col1 (F := F) x (ix1 j)) 0#32) _ (col1 (F := F) x (ix1 j)) = _
  rw [e, not_neg (hx (ix2 j 1))]
  rfl

theorem starts_zero (x : S1048576x2.Idx → Elt F .i32) (hx : InTable x) (j : Fin 1048576) :
    starts (F := F) x (ix2 j 0) = x (ix2 j 0) := by
  rw [← wrapped_col0 x hx j]
  pointwise [starts]

theorem starts_one (x : S1048576x2.Idx → Elt F .i32) (hx : InTable x) (j : Fin 1048576) :
    starts (F := F) x (ix2 j 1) = x (ix2 j 1) := by
  rw [← wrapped_col1 x hx j]
  pointwise [starts]

theorem negRows_apply (x : S1048576x2.Idx → Elt F .i32) (hx : InTable x) (i : S1048576.Idx) : negRows (F := F) x i = 0#1 := by
  unfold negRows
  rw [Host.reduce_eq_foldl]
  exact foldl_or_zero _ (fun n => not_neg (hx n)) _

/-- The gather reads the table at the two start numbers, each clamped. -/
theorem gather_apply {α : Type} (w : S1024x1024.Idx → α) (s : IVec S1048576x2 32) (j : Fin 1048576) :
    Host.gather gather_S1024x1024_S1048576x2_S1048576_n_01_n_n_01_1_11 w s (ix1 j)
      = w (ix2 ⟨min (s (ix2 j 0)).toInt.toNat (1024 - 1), by omega⟩ ⟨min (s (ix2 j 1)).toInt.toNat (1024 - 1), by omega⟩) := by
  have mem : ∀ a : Fin 2, a ∈ [(0 : Fin 2), 1] := by decide
  have main : ∀ (a : Fin 2), ((gather_S1024x1024_S1048576x2_S1048576_n_01_n_n_01_1_11).operandIdx (ix1 j) s a).val
      = min (s (ix2 j a)).toInt.toNat (1024 - 1) := by
    intro a
    show (gather_S1024x1024_S1048576x2_S1048576_n_01_n_n_01_1_11).start (ix1 j) s a
        + (gather_S1024x1024_S1048576x2_S1048576_n_01_n_n_01_1_11).batchCoord (ix1 j) a
        + (gather_S1024x1024_S1048576x2_S1048576_n_01_n_n_01_1_11).offCoord (ix1 j) a = _
    rw [GatherDims.batchCoord_eq_zero _ _ _ List.not_mem_nil,
      GatherDims.offCoord_eq_zero _ _ _ (fun h => ((GatherDims.mem_sKept _ _).mp h).1 (mem a))]
    simp only [Nat.add_zero]
    unfold GatherDims.start
    rw [dif_pos (show a ∈ (gather_S1024x1024_S1048576x2_S1048576_n_01_n_n_01_1_11).startIndexMap from mem a)]
    have hsi : (gather_S1024x1024_S1048576x2_S1048576_n_01_n_n_01_1_11).siIdx (ix1 j)
        ⟨List.idxOf a (gather_S1024x1024_S1048576x2_S1048576_n_01_n_n_01_1_11).startIndexMap, List.idxOf_lt_length_iff.2 (mem a)⟩
        = ix2 j a := by
      funext b
      refine Fin.ext ?_
      match a, b with
      | ⟨0, _⟩, ⟨0, _⟩ => rfl
      | ⟨0, _⟩, ⟨1, _⟩ => rfl
      | ⟨1, _⟩, ⟨0, _⟩ => rfl
      | ⟨1, _⟩, ⟨1, _⟩ => rfl
    rw [hsi]
    match a with
    | ⟨0, _⟩ => rfl
    | ⟨1, _⟩ => rfl
  refine congrArg w (funext fun a => Fin.ext ((main a).trans ?_))
  match a with
  | ⟨0, _⟩ => rfl
  | ⟨1, _⟩ => rfl

/-- A choice between two arrays whose bit is 0 at `i` is the second one there. -/
theorem select_off {α : Type} {s : Shape} (c : IVec s 1) (a b : s.Idx → α) (i : s.Idx) (h : c i = 0#1) : select c a b i = b i := by
  show Scalar.select (c i) (a i) (b i) = b i
  rw [h]
  rfl

/-- Entry `j` of the reference's result. -/
theorem refOut_apply (x : S1048576x2.Idx → Elt F .i32) (w : S1024x1024.Idx → Elt F .f32) (hx : InTable x) (j : Fin 1048576) :
    refOut x w (ix1 j) = w (ix2 ⟨(x (ix2 j 0) : BitVec 32).toNat, hx _⟩ ⟨(x (ix2 j 1) : BitVec 32).toNat, hx _⟩) := by
  unfold refOut
  refine (select_off _ _ _ _ (negRows_apply x hx (ix1 j))).trans ((gather_apply w _ j).trans ?_)
  congr 1
  congr 1 <;> apply Fin.ext
  · show min (starts (F := F) x (ix2 j 0) : BitVec 32).toInt.toNat (1024 - 1) = _
    rw [starts_zero x hx j, clamped (hx _)]
  · show min (starts (F := F) x (ix2 j 1) : BitVec 32).toInt.toNat (1024 - 1) = _
    rw [starts_one x hx j, clamped (hx _)]

/-- The kernel's result and the reference's are one array. -/
theorem lookup_eq_refOut (x : S1048576x2.Idx → Elt F .i32) (w : S1024x1024.Idx → Elt F .f32) (hx : InTable x) :
    lookup (positions x) (flat w) = refOut x w := by
  funext j
  rw [eq_ix1 j]
  exact (lookup_apply x w hx (j 0)).trans (refOut_apply x w hx (j 0)).symm

end Cert.Proof.Lookup

end
-- ==== Proof.lean ====
/-
  The certificate: the kernel runs, leaves its arguments alone and ends quiescent, over bit patterns and over extended
  reals; so does the reference; and over extended reals the two end with one result.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_queries_in_domain
public import proofs.«01_k».proof.Proof.RefValue
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The input condition bounds every position the kernel reads, over bit patterns. -/
theorem preOK_bits (m : (ℓ : Loc Cert.Kernel.nD Cert.Kernel.τ Cert.Kernel.sig) → Buf (Elt Bits) ℓ) (h : Cert.Pre_Kernel m) :
    Lookup.PreOK (F := Bits) m :=
  Lookup.preOK_of_inTable _ fun d => Lookup.inTable_of_pre _ _ (h d)

/-- Over extended reals, every index is inside the table. -/
theorem inTable_ideal (m : (ℓ : Loc Cert.KernelIdeal.nD Cert.KernelIdeal.τ Cert.KernelIdeal.sig) → Buf (Elt Ideal) ℓ)
    (h : Cert.Pre_KernelIdeal m) (d : Dev Cert.KernelIdeal.nD) : Lookup.InTable (m (Lookup.xLoc d)) :=
  Lookup.inTable_of_pre (F := Ideal) _ _ (h d)

theorem frame_kernel : Cert.quiescent_Kernel := fun m g hpre =>
  (θ_run Cert.KernelIdeal.defs _ _).mono (fun _ h => ⟨fun c => (h.1 c).2, h.2⟩) (Lookup.run_main (F := Bits) m g (preOK_bits m hpre))

theorem frame_kernelIdeal : Cert.quiescent_KernelIdeal := fun m g hpre =>
  (θ_run Cert.KernelIdeal.defs _ _).mono (fun _ h => ⟨fun c => (h.1 c).2, h.2⟩)
    (Lookup.run_main (F := Ideal) m g (Lookup.preOK_of_inTable m (inTable_ideal m hpre)))

/-- The reference's run: its result is `Lookup.refOut` of its arguments, which it leaves alone. -/
theorem run_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v21)
            = Lookup.refOut (F := Ideal) (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) := by
  hlo_run
  simp -implicitDefEqProofs only [StableHlo.TRef.toBuf, StableHlo.TRef.ofBuf, cast_eq]
  unfold Lookup.refOut Lookup.negRows Lookup.starts Lookup.wrapped Lookup.col0 Lookup.col1
  rfl

theorem frame_reference : Cert.quiescent_ReferenceIdeal := fun m g _ =>
  (θ_run Cert.ReferenceIdeal.defs _ _).mono (fun r h => ⟨fun c => (h c).2, sem_eq_zero_of_no_sems (by decide) r.2⟩) (run_reference m g)

theorem frame_reference_pre : Cert.quiescent_ReferenceIdeal_pre_queries_in_domain := fun m g _ =>
  (θ_run Cert.ReferenceIdeal.defs _ _).mono (fun r h => ⟨fun c => (h c).2, sem_eq_zero_of_no_sems (by decide) r.2⟩) (run_reference m g)

theorem same_result : Cert.algebraic_KernelIdeal_ReferenceIdeal := by
  intro m g m' g' hpre hagree
  refine ⟨fun c => Lookup.OUT m c, (θ_run Cert.KernelIdeal.defs _ _).mono (fun _ h => h.1)
    (Lookup.run_main (F := Ideal) m g (Lookup.preOK_of_inTable m (inTable_ideal m hpre))),
    (θ_run Cert.ReferenceIdeal.defs _ _).mono (fun _ h c => ⟨(h c).1.trans ?_, (h c).2⟩) (run_reference m' g')⟩
  rw [(hagree c).1, (hagree c).2]
  exact (Lookup.lookup_eq_refOut _ _ (inTable_ideal m hpre c)).symm

theorem claim : Cert.Claim := ⟨Cert.Kernel.Gen.facts, Cert.KernelIdeal.Gen.facts, Cert.ReferenceIdeal.Gen.facts,
  Cert.Pre_queries_in_domain.Gen.facts, frame_kernel, frame_kernelIdeal, frame_reference, frame_reference_pre, trivial, same_result⟩

end Cert.Proof

end
